-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ties_break_no_event [hPre_ties_break_no_event : Cert.Pre_ties_break_no_event.Facts] (m : (ℓ : Loc Cert.KernelIdeal.nD Cert.KernelIdeal.τ Cert.KernelIdeal.sig) → Buf (Elt Ideal) ℓ) : Prop :=
  ∀ c : Dev Cert.KernelIdeal.nD,
    (Cert.Pre_ties_break_no_event.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_ties_break_no_event.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ties_break_no_event [hPre_ties_break_no_event : Cert.Pre_ties_break_no_event.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ties_break_no_event.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_ties_break_no_event.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ties_break_no_event [hKernelIdeal : Cert.KernelIdeal.Facts] [hPre_ties_break_no_event : Cert.Pre_ties_break_no_event.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ties_break_no_event m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ties_break_no_event [hReferenceIdeal : Cert.ReferenceIdeal.Facts] [hPre_ties_break_no_event : Cert.Pre_ties_break_no_event.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ties_break_no_event m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ties_break_no_event [hKernelIdeal : Cert.KernelIdeal.Facts] [hReferenceIdeal : Cert.ReferenceIdeal.Facts] [hPre_ties_break_no_event : Cert.Pre_ties_break_no_event.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ties_break_no_event m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ties_break_no_event : Cert.Pre_ties_break_no_event.Facts),
    quiescent_Kernel (hKernel := hKernel)
    ∧ quiescent_KernelIdeal (hKernelIdeal := hKernelIdeal)
    ∧ quiescent_KernelIdeal_pre_ties_break_no_event (hKernelIdeal := hKernelIdeal) (hPre_ties_break_no_event := hPre_ties_break_no_event)
    ∧ quiescent_ReferenceIdeal (hReferenceIdeal := hReferenceIdeal)
    ∧ quiescent_ReferenceIdeal_pre_ties_break_no_event (hReferenceIdeal := hReferenceIdeal) (hPre_ties_break_no_event := hPre_ties_break_no_event)
    ∧ preserves_Kernel_KernelIdeal
    ∧ algebraic_KernelIdeal_ReferenceIdeal_pre_ties_break_no_event (hKernelIdeal := hKernelIdeal) (hReferenceIdeal := hReferenceIdeal) (hPre_ties_break_no_event := hPre_ties_break_no_event)
-- ==== Pre_ties_break_no_event.lean ====
abbrev S16384x1 : Shape := ⟨2, ![16384, 1]⟩
abbrev S16384 : Shape := ⟨1, ![16384]⟩
abbrev S16384x16384 : Shape := ⟨2, ![16384, 16384]⟩
abbrev S1x16384 : Shape := ⟨2, ![1, 16384]⟩
abbrev S_ : Shape := ⟨0, ![]⟩

class Facts : Prop where
  shapeCasts_S16384_S16384x1 : S16384.ShapeCasts S16384x1
  shapeCasts_S16384_S1x16384 : S16384.ShapeCasts S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x1 : S_.BroadcastsInDim S16384x1 (![] : Fin 0 → Fin S16384x1.rank)

variable [Facts]

def fn {F : FTy → Type} [FloatOps F] (main_arg0 : FVec F S16384x1 .f32) (main_arg1 : FVec F S16384 .f32) (main_arg2 : IVec S16384x1 32) : IVec S16384x1 1 × IVec S16384x16384 1 :=
  let main_v0 : IVec S16384x16384 32 := iotaInDim S16384x16384 32 0
  let main_v1 : IVec S16384x16384 32 := iotaInDim S16384x16384 32 1
  let main_v2 : IVec S16384x16384 1 := cmpi .slt main_v0 main_v1
  let main_v3 : FVec F S16384x1 .f32 := shapeCast S16384x1 main_arg1 shapeCasts_S16384_S16384x1
  let main_v4 : FVec F S1x16384 .f32 := shapeCast S1x16384 main_arg1 shapeCasts_S16384_S1x16384
  let main_v5 : FVec F S16384x16384 .f32 := broadcastInDim S16384x16384 ![0, 1] bcast_S16384x1_S16384x16384_0_1 main_v3
  let main_v6 : FVec F S16384x16384 .f32 := broadcastInDim S16384x16384 ![0, 1] bcast_S1x16384_S16384x16384_0_1 main_v4
  let main_v7 : IVec S16384x16384 1 := cmpf .oeq main_v5 main_v6
  let main_c : IVec S_ 32 := constantI S_ 32 0#32
  let main_v8 : IVec S16384x1 32 := broadcastInDim S16384x1 ![] bcast_S_S16384x1 main_c
  let main_v9 : IVec S16384x1 1 := cmpi .ne main_arg2 main_v8
  let main_v10 : FVec F S16384x1 .f32 := Host.absf main_arg0
  let main_cst : FVec F S_ .f32 := constant S_ .f32 0x7F800000#32
  let main_v11 : FVec F S16384x1 .f32 := broadcastInDim S16384x1 ![] bcast_S_S16384x1 main_cst
  let main_v12 : IVec S16384x1 1 := cmpf .olt main_v10 main_v11
  let main_v13 : IVec S16384x16384 1 := andi main_v2 main_v7
  let main_v14 : IVec S16384x16384 1 := broadcastInDim S16384x16384 ![0, 1] bcast_S16384x1_S16384x16384_0_1 main_v9
  let main_v15 : IVec S16384x16384 1 := andi main_v13 main_v14
  let main_v16 : IVec S16384x16384 1 := noti main_v15
  (main_v12, main_v16)
-- ==== Kernel.lean ====
abbrev S16384x1 : Shape := ⟨2, ![16384, 1]⟩
abbrev S16384 : Shape := ⟨1, ![16384]⟩
abbrev S128x128 : Shape := ⟨2, ![128, 128]⟩
abbrev S1x1 : Shape := ⟨2, ![1, 1]⟩
abbrev S128x1 : Shape := ⟨2, ![128, 1]⟩
abbrev S1x128x128 : Shape := ⟨3, ![1, 128, 128]⟩
abbrev S1 : Shape := ⟨1, ![1]⟩
abbrev S1x1x1 : Shape := ⟨3, ![1, 1, 1]⟩
abbrev S1x128 : Shape := ⟨2, ![1, 128]⟩
abbrev S128 : Shape := ⟨1, ![128]⟩
abbrev S1x128x1 : Shape := ⟨3, ![1, 128, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384x1, .i32⟩
  | .hbm, ⟨3, _⟩ => ⟨S16384, .f32⟩
  | .hbm, ⟨4, _⟩ => ⟨S16384, .i32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S16384x1, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x1, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x1, .f32⟩
  | .local _ .vmem, ⟨10, _⟩ => ⟨S128x128, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c128_i32 : BitVec 32 := 128#32
  let v17 : BitVec 32 := Scalar.addi c0_i32 c128_i32
  let c1_i32 : BitVec 32 := 1#32
  ⟨c0_i32, v17, c1_i32⟩
def k0_off1 (k0_t1 : Fin k0_t1_loop.trips) : Fin 2 → Nat :=
  let c0_i32 : BitVec 32 := 0#32
  let c1_i32 : BitVec 32 := 1#32
  let arg9 : BitVec 32 := Scf.iv c0_i32 c1_i32 k0_t1
  let v45 : Index := Scalar.indexCast arg9
  let c0_20 : Index := 0#32
  ![v45.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16384x1 : Shape := ⟨2, ![16384, 1]⟩
abbrev S16384 : Shape := ⟨1, ![16384]⟩
abbrev S_ : Shape := ⟨0, ![]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384, .f32⟩
  | .hbm, ⟨2, _⟩ => ⟨S16384x1, .i32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S16384, .f32⟩
  | .hbm, ⟨7, _⟩ => ⟨S16384, .f32⟩
  | .hbm, ⟨8, _⟩ => ⟨S16384, .f32⟩
  | .hbm, ⟨9, _⟩ => ⟨S16384, .i32⟩
  | .hbm, ⟨10, _⟩ => ⟨S16384, .f32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384, .f32⟩
  | .hbm, ⟨21, _⟩ => ⟨S_, .i32⟩
  | .hbm, ⟨22, _⟩ => ⟨S16384, .i32⟩
  | .hbm, ⟨23, _⟩ => ⟨S16384, .i1⟩
  | .hbm, ⟨24, _⟩ => ⟨S_, .i32⟩
  | .hbm, ⟨25, _⟩ => ⟨S16384, .i32⟩
  | .hbm, ⟨26, _⟩ => ⟨S16384, .i32⟩
  | .hbm, ⟨27, _⟩ => ⟨S16384, .i32⟩
  | .hbm, ⟨28, _⟩ => ⟨S16384x1, .i32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x1, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1_0 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_call0_cst : Ref sig .tc := ⟨.hbm, 31, rfl⟩
abbrev main_call1_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.Payload.lean ====
/-
  The values that the kernel's body stores and accumulates, element by element at the ideal values.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Body

open Cert.KernelIdeal Cert.KernelIdeal.Gen

/-- One trip's addition: the weight of a row whose time is not earlier, zero for the others. -/
theorem pay7_apply (tc : Vec Ideal S128x1 .f32) (acc : FVec Ideal S128x128 .f32) (T W : Vec Ideal S1x128 .f32) (p l : Fin 128) :
    k0_pay7 tc acc T W (ix2 p l)
      = acc (ix2 p l) + (if tc (ix2 p (0 : Fin 1)) ≤ T (ix2 (0 : Fin 1) l) then W (ix2 (0 : Fin 1) l) else 0) := by
  pointwise [k0_pay7]

/-- The accumulator of the loop starts at zero. -/
theorem pay6_apply (p l : Fin 128) : (k0_pay6 : FVec Ideal S128x128 .f32) (ix2 p l) = 0 := by
  pointwise [k0_pay6]

/-- The output is zeroed with zero. -/
theorem pay9_apply : (k0_pay9 : FVec Ideal S1x1 .f32) (ix2 (0 : Fin 1) (0 : Fin 1)) = 0 := by
  pointwise [k0_pay9]

/-- The start of the maximum is minus infinity. -/
theorem ofBits_negInf : Ideal.ofBits .f32 0xFF800000#32 = ⊥ := by simp [Ideal.ofBits, Ideal.ieee]

/-- The maximum of all logits. -/
theorem pay4_eq (x : Vec Ideal S128x128 .f32) :
    k0_pay4 x = Finset.univ.fold max ⊥ fun i : Fin 128 × Fin 128 => x (ix2 i.1 i.2) := by
  pointwise [k0_pay4, k0_pay3]
  rw [ofBits_negInf]

/-- A row's weight: the exponential of its logit less the maximum. -/
theorem pay5_apply (x : Vec Ideal S128x128 .f32) (r l : Fin 128) :
    k0_pay5 x (ix2 r l) = Ideal.exp (x (ix2 r l) - k0_pay4 x) := by
  pointwise [k0_pay5, k0_pay3]

/-- A block's part of the loss from the loop's accumulator: the lanes are summed, the logarithm taken, the maximum added
    back, the row's logit taken off, and the rows summed by their event indicators. -/
theorem pay8_eq (x : Vec Ideal S128x128 .f32) (v : FVec Ideal S128x128 .f32) (e lr : Vec Ideal S128x1 .f32) :
    k0_pay8 x v e lr = ∑ p : Fin 128, e (ix2 p (0 : Fin 1)) * (Ideal.log (∑ l : Fin 128, v (ix2 p l)) + k0_pay4 x - lr (ix2 p (0 : Fin 1))) := by
  pointwise [k0_pay8]
  exact Finset.sum_congr rfl fun p _ => Fin.sum_univ_one _

/-- The part is added to the output. -/
theorem pay1_apply (v : Ideal .f32) (o : Vec Ideal S1x1 .f32) :
    k0_pay1 v o (ix2 (0 : Fin 1) (0 : Fin 1)) = o (ix2 (0 : Fin 1) (0 : Fin 1)) + v := by
  pointwise [k0_pay1]

/-- The last step: zero without events, else the output divided by the event count. -/
theorem pay2_apply (e : Vec Ideal S128x128 .f32) (o : Vec Ideal S1x1 .f32) :
    k0_pay2 e o (ix2 (0 : Fin 1) (0 : Fin 1)) = if (∑ r : Fin 128, ∑ l : Fin 128, e (ix2 r l)) = 0 then 0
      else Ideal.div (o (ix2 (0 : Fin 1) (0 : Fin 1))) (∑ r : Fin 128, ∑ l : Fin 128, e (ix2 r l)) := by
  pointwise [k0_pay2]
  split <;> rfl

end Cert.KernelIdeal.Body

end
-- ==== Proof.Body.lean ====
/-
  What one point of the grid computes: the loop's accumulator, the block's part of the loss, and what the output holds
  after the first, a middle and the last point.
-/
module

public import proofs.«01_k».proof.Proof.Payload

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

/-- The whole-block accesses start at the origin. -/
theorem hz : (![0, 0] : Fin 2 → Nat) = fun _ => 0 := funext fun a => by fin_cases a <;> rfl

/-- The loop runs over the 128 rows of the [128, 128] arrangement. -/
theorem trips_eq : k0_t1_loop.trips = 128 := by decide

/-- Trip `k` loads row `k` of its two operands. -/
theorem off1 : ∀ k : Fin k0_t1_loop.trips, k0_off1 k = ![k.val, 0] := by decide

variable (c : Dev nD) (i : grid0.Coords) (arg1 : Memref sig .tc .vmem S128x1 .f32) (harg1 : arg1.IsWhole)
  (arg2 : Memref sig .tc .vmem S128x1 .f32) (harg2 : arg2.IsWhole) (arg3 : Memref sig .tc .vmem S128x1 .f32) (harg3 : arg3.IsWhole)
  (arg4 : Memref sig .tc .vmem S128x128 .f32) (harg4 : arg4.IsWhole) (arg5 : Memref sig .tc .vmem S128x128 .f32) (harg5 : arg5.IsWhole)
  (arg6 : Memref sig .tc .vmem S128x128 .f32) (harg6 : arg6.IsWhole) (arg7 : Memref sig .tc .vmem S1x1 .f32) (harg7 : arg7.IsWhole)
  (arg8 : Memref sig .tc .vmem S128x128 .f32) (harg8 : arg8.IsWhole)
  (x0 x1 x2 : Vec Ideal S128x1 .f32) (x3 x4 x5 : Vec Ideal S128x128 .f32) (xo : Vec Ideal S1x1 .f32)

/-- One trip of the loop: the trip's payload over row `k` of the times and of the weights. -/
theorem trip (𝒱 : Variants) (bd : Option 𝒱.V) (v12 : Vec Ideal S128x1 .f32) (X4 : BufTy.Contents (Elt Ideal) arg4.view.ty)
    (X8 : BufTy.Contents (Elt Ideal) arg8.view.ty) (k : Fin k0_t1_loop.trips) (acc : FVec Ideal S128x128 .f32) :
    tripR_k0_t1 𝒱 c bd i arg1 harg1 arg2 harg2 arg3 harg3 arg4 harg4 arg5 harg5 arg6 harg6 arg7 harg7 arg8 harg8 v12 X4 X8 k acc
      = k0_pay7 v12 acc (View.ld (View.read (Elt Ideal) arg4.view X4) (Rect.unit (k0_off1 k) S1x128.size (k0_off1_inb k)))
          (View.ld (View.read (Elt Ideal) arg8.view X8) (Rect.unit (k0_off1 k) S1x128.size (k0_off1_inb k))) := by
  unfold tripR_k0_t1 trip_k0_t1
  rfl

/-- Row `k` of a square block, read at a lane. -/
theorem row_apply (X : Vec Ideal S128x128 .f32) (k : Fin k0_t1_loop.trips) (r : Fin 128) (hr : r.val = k.val) (l : Fin 128) :
    View.ld (Val := Elt Ideal) (e' := .f32) X (Rect.unit (k0_off1 k) S1x128.size (k0_off1_inb k)) (ix2 (0 : Fin 1) l) = X (ix2 r l) := by
  refine View.ld_unit_apply_of X _ _ _ _ _ fun a => ?_
  have h := congrFun (off1 k) a
  match a, h with
  | ⟨0, _⟩, h => exact hr.trans (h.symm.trans (Nat.add_zero _).symm)
  | ⟨1, _⟩, h => exact ((congrArg (· + l.val) h).trans (Nat.zero_add _)).symm

/-- The loop's accumulator before trip `k`: at row `p` and lane `l`, the weights of the rows before `k` whose time is not
    earlier than row `p`'s. -/
theorem loop_apply (𝒱 : Variants) (bd : Option 𝒱.V) (v12 : Vec Ideal S128x1 .f32) (X4 : BufTy.Contents (Elt Ideal) arg4.view.ty)
    (X8 : BufTy.Contents (Elt Ideal) arg8.view.ty) (T W : Vec Ideal S128x128 .f32) (hT : View.read (Elt Ideal) arg4.view X4 = T)
    (hW : View.read (Elt Ideal) arg8.view X8 = W) (p l : Fin 128) (k : ℕ) (hk : k ≤ 128) :
    st_k0_t1 𝒱 c bd i arg1 harg1 arg2 harg2 arg3 harg3 arg4 harg4 arg5 harg5 arg6 harg6 arg7 harg7 arg8 harg8 v12 X4 X8 k0_pay6 k (ix2 p l)
      = ∑ r : Fin 128, if r.val < k then (if v12 (ix2 p (0 : Fin 1)) ≤ T (ix2 r l) then W (ix2 r l) else 0) else 0 := by
  induction k with
  | zero => rw [st_k0_t1_zero, pay6_apply]; simp
  | succ k ih =>
    have hk' : k < k0_t1_loop.trips := by rw [trips_eq]; omega
    rw [st_k0_t1_succ 𝒱 c bd i arg1 harg1 arg2 harg2 arg3 harg3 arg4 harg4 arg5 harg5 arg6 harg6 arg7 harg7 arg8 harg8 v12 X4 X8 k0_pay6 ⟨k, hk'⟩, trip, pay7_apply, hT, hW, ih (by omega)]
    rw [row_apply T ⟨k, hk'⟩ ⟨k, by omega⟩ rfl, row_apply W ⟨k, hk'⟩ ⟨k, by omega⟩ rfl]
    have hone : (if v12 (ix2 p (0 : Fin 1)) ≤ T (ix2 (⟨k, by omega⟩ : Fin 128) l) then W (ix2 (⟨k, by omega⟩ : Fin 128) l) else 0)
        = ∑ r : Fin 128, if r = ⟨k, by omega⟩ then (if v12 (ix2 p (0 : Fin 1)) ≤ T (ix2 r l) then W (ix2 r l) else 0) else 0 := by
      rw [Finset.sum_ite_eq' Finset.univ (⟨k, by omega⟩ : Fin 128)]; simp
    rw [hone, ← Finset.sum_add_distrib]
    refine Finset.sum_congr rfl fun r _ => ?_
    rcases lt_trichotomy r.val k with h | h | h
    · rw [if_pos (show r.val < k + 1 by omega), if_pos h, if_neg (fun e => h.ne (congrArg Fin.val e)), add_zero]
    · rw [if_pos (show r.val < k + 1 by omega), if_neg (show ¬r.val < k by omega), if_pos (Fin.ext h), zero_add]
    · rw [if_neg (show ¬r.val < k + 1 by omega), if_neg (show ¬r.val < k by omega), if_neg (fun e => h.ne' (congrArg Fin.val e)),
        add_zero]

/-- The risk sum of row `p` of a block: the weights `exp (x - max x)` of all rows whose time is not earlier. -/
def riskE (t : Vec Ideal S128x1 .f32) (T L : Vec Ideal S128x128 .f32) (p : Fin 128) : EReal :=
  ∑ l : Fin 128, ∑ r : Fin 128, if t (ix2 p (0 : Fin 1)) ≤ T (ix2 r l) then Ideal.exp (L (ix2 r l) - k0_pay4 L) else 0

/-- A block's part of the loss: the sum over its rows. -/
def partE (t lr e : Vec Ideal S128x1 .f32) (T L : Vec Ideal S128x128 .f32) : EReal :=
  ∑ p : Fin 128, e (ix2 p (0 : Fin 1)) * (Ideal.log (riskE t T L p) + k0_pay4 L - lr (ix2 p (0 : Fin 1)))

/-- What the body computes at a point before it accumulates: the block's part of the loss. -/
theorem part_eq (n : ℕ) (hn : n = 128) :
    k0_pay8 x4 (st_k0_t1 Variants.none c none i arg1 harg1 arg2 harg2 arg3 harg3 arg4 harg4 arg5 harg5 arg6 harg6 arg7 harg7 arg8 harg8
        x0 (harg4.unread x3) (arg8.view.writes (Elt Ideal) arg8.view.junk
          [⟨Rect.unit ![0, 0] ![128, 128] inb_S128x128_S128x128_0_0, k0_pay5 x4⟩]) k0_pay6 n) x2 x1
      = partE x0 x1 x2 x3 x4 := by
  subst hn
  rw [pay8_eq]
  unfold partE riskE
  refine Finset.sum_congr rfl fun p _ => ?_
  congr 4
  refine Finset.sum_congr rfl fun l _ => ?_
  rw [loop_apply c i arg1 harg1 arg2 harg2 arg3 harg3 arg4 harg4 arg5 harg5 arg6 harg6 arg7 harg7 arg8 harg8 Variants.none none x0 _ _ x3 (k0_pay5 x4)
    (harg4.read_unread x3) ?_ p l 128 le_rfl]
  · refine Finset.sum_congr rfl fun r _ => ?_
    rw [if_pos r.isLt, pay5_apply]
  · rw [View.read_writes_eq_canon _ _ _ (fun y => ⟨_, List.mem_singleton.mpr rfl, ?_⟩), View.canon_unit_zero (S := S128x128) hz]
    exact View.mem_set_unit_zero (S := S128x128) hz inb_S128x128_S128x128_0_0 y

/-- At the first point the accumulator is zeroed, then the part added. -/
theorem out_A (hc0 : cond0_0 i) (hc1 : ¬cond0_1 i) :
    out0_A_6 c i arg1 harg1 arg2 harg2 arg3 harg3 arg4 harg4 arg5 harg5 arg6 harg6 arg7 harg7 arg8 harg8 hc0 hc1 x0 x1 x2 x3 x4 x5
      = k0_pay1 (F := Ideal) (partE x0 x1 x2 x3 x4) (k0_pay9 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x1) hz]
  simp only [View.readAt_eq_ld, harg1.read_unread, harg2.read_unread, harg3.read_unread, harg4.read_unread, harg5.read_unread,
    harg6.read_unread, harg7.read_unread, View.ld_unit_zero (S := S1x1) hz, View.ld_unit_zero (S := S128x1) hz,
    View.ld_unit_zero (S := S128x128) hz, shapeCast_self, View.readCov_unit_zero (S := S1x1) _ hz]
  rw [part_eq _ _ _ _ _ _ _ _ _ _ _ _ _ _ _ _ _ _ _ _ _ _ _ _ (by decide)]

/-- At a middle point the part is added. -/
theorem out_B (hc0 : ¬cond0_0 i) (hc1 : ¬cond0_1 i) :
    out0_B_6 c i arg1 harg1 arg2 harg2 arg3 harg3 arg4 harg4 arg5 harg5 arg6 harg6 arg7 harg7 arg8 harg8 hc0 hc1 x0 x1 x2 x3 x4 x5 xo
      = k0_pay1 (F := Ideal) (partE x0 x1 x2 x3 x4) xo := by
  unfold out0_B_6
  rw [View.read_writes_eq_canon _ _ _ (cover0_B_6 c i arg1 harg1 arg2 harg2 arg3 harg3 arg4 harg4 arg5 harg5 arg6 harg6 arg7 harg7 arg8 harg8 hc0 hc1 x0 x1 x2 x3 x4 x5 xo)]
  unfold kernelRun0_B
  dsimp only
  sl_unfold_words
  rw [View.canon_cons_unit_zero (S := S1x1) hz]
  simp only [View.readAt_eq_ld, harg1.read_unread, harg2.read_unread, harg3.read_unread, harg4.read_unread, harg5.read_unread,
    harg6.read_unread, harg7.read_unread, View.ld_unit_zero (S := S1x1) hz, View.ld_unit_zero (S := S128x1) hz,
    View.ld_unit_zero (S := S128x128) hz, shapeCast_self, View.readCov_unit_zero (S := S1x1) _ hz]
  rw [part_eq _ _ _ _ _ _ _ _ _ _ _ _ _ _ _ _ _ _ _ _ _ _ _ _ (by decide)]

/-- At the last point the part is added, then the sum divided. -/
theorem out_C (hc0 : ¬cond0_0 i) (hc1 : cond0_1 i) :
    out0_C_6 c i arg1 harg1 arg2 harg2 arg3 harg3 arg4 harg4 arg5 harg5 arg6 harg6 arg7 harg7 arg8 harg8 hc0 hc1 x0 x1 x2 x3 x4 x5 xo
      = k0_pay2 (F := Ideal) x5 (k0_pay1 (F := Ideal) (partE x0 x1 x2 x3 x4) xo) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xo)]
  unfold kernelRun0_C
  dsimp only
  sl_unfold_words
  rw [View.canon_cons_unit_zero (S := S1x1) hz]
  simp only [View.readAt_eq_ld, harg1.read_unread, harg2.read_unread, harg3.read_unread, harg4.read_unread, harg5.read_unread,
    harg6.read_unread, harg7.read_unread, View.ld_unit_zero (S := S1x1) hz, View.ld_unit_zero (S := S128x1) hz,
    View.ld_unit_zero (S := S128x128) hz, shapeCast_self, View.readCov_unit_zero (S := S1x1) _ hz]
  rw [part_eq _ _ _ _ _ _ _ _ _ _ _ _ _ _ _ _ _ _ _ _ _ _ _ _ (by decide)]

end Cert.KernelIdeal.Body

end
-- ==== Proof.KernelValue.lean ====
/-
  The kernel's array after the whole grid: what each window's block holds of the arguments, the output's contents point
  by point, and the result after the last point.
-/
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.KernelIdeal.Body

/-- Row `r` and lane `l` of the [128, 128] arrangement as a row of the whole. -/
def flat (r l : Fin 128) : Fin 16384 := ⟨r.val * 128 + l.val, by omega⟩

/-- The grid's point `s`. -/
def pt (s : Fin 128) : Fin cfg0.N := ⟨s.val, lt_of_lt_of_eq s.isLt (show 128 = cfg0.N from N_0.symm)⟩

/-- The block indices: the columns advance with the point, the [128, 128] arrays are whole at every point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] :=
  (by decide +kernel : ∀ t : Fin grid0.N, _)

variable (m : (ℓ : Loc nD τ sig) → Buf (Elt Ideal) ℓ) (c : Dev nD)

/-- The logits, the times and the event indicators, as the arrays of the launch. -/
abbrev logits : FVec Ideal S16384x1 .f32 := m ((c : Thread nD τ).loc main_arg0)
abbrev times : FVec Ideal S16384 .f32 := m ((c : Thread nD τ).loc main_arg1)
abbrev events : IVec S16384x1 32 := m ((c : Thread nD τ).loc main_arg2)

/-! ## What each window's block holds -/

/-- The arrays of the six input windows, as the host operations before the launch leave them. -/
theorem V3 : V m c main_v3 = shapeCast S16384x1 (times m c) shapeCasts_S16384_S16384x1 := by
  unfold V hostOps0; after_results_simp; rfl
theorem V4 : V m c main_v4 = shapeCast S16384x1 (shapeCast S16384 (logits m c) shapeCasts_S16384x1_S16384) shapeCasts_S16384_S16384x1 := by
  unfold V hostOps0; after_results_simp; rfl
theorem V5 : V m c main_v5 = shapeCast S16384x1 (sitofp (F := Ideal) .f32 (shapeCast S16384 (events m c) shapeCasts_S16384x1_S16384)) shapeCasts_S16384_S16384x1 := by
  unfold V hostOps0; after_results_simp; rfl
theorem V6 : V m c main_v6 = shapeCast S128x128 (times m c) shapeCasts_S16384_S128x128 := by
  unfold V hostOps0; after_results_simp; rfl
theorem V7 : V m c main_v7 = shapeCast S128x128 (shapeCast S16384 (logits m c) shapeCasts_S16384x1_S16384) shapeCasts_S16384_S128x128 := by
  unfold V hostOps0; after_results_simp; rfl
theorem V8 : V m c main_v8 = shapeCast S128x128 (sitofp (F := Ideal) .f32 (shapeCast S16384 (events m c) shapeCasts_S16384x1_S16384)) shapeCasts_S16384_S128x128 := by
  unfold V hostOps0; after_results_simp; rfl

/-- The column windows' blocks are the columns' rows. -/
theorem iblk_col0 (t : Fin cfg0.N) (p : Fin 128) : iblk m c 0 t (ix2 p (0 : Fin 1))
    = V m c main_v3 (ix2 (flat ⟨t.val, lt_of_lt_of_eq t.isLt N_0⟩ p) (0 : Fin 1)) := by
  blk_ext [iblk, idx t, flat]
theorem iblk_col1 (t : Fin cfg0.N) (p : Fin 128) : iblk m c 1 t (ix2 p (0 : Fin 1))
    = V m c main_v4 (ix2 (flat ⟨t.val, lt_of_lt_of_eq t.isLt N_0⟩ p) (0 : Fin 1)) := by
  blk_ext [iblk, idx t, flat]
theorem iblk_col2 (t : Fin cfg0.N) (p : Fin 128) : iblk m c 2 t (ix2 p (0 : Fin 1))
    = V m c main_v5 (ix2 (flat ⟨t.val, lt_of_lt_of_eq t.isLt N_0⟩ p) (0 : Fin 1)) := by
  blk_ext [iblk, idx t, flat]
/-- The [128, 128] windows' blocks are the whole arrays. -/
theorem iblk_whole3 (t : Fin cfg0.N) (r l : Fin 128) : iblk m c 3 t (ix2 r l) = V m c main_v6 (ix2 r l) := by
  blk_ext [iblk, idx t]
theorem iblk_whole4 (t : Fin cfg0.N) (r l : Fin 128) : iblk m c 4 t (ix2 r l) = V m c main_v7 (ix2 r l) := by
  blk_ext [iblk, idx t]
theorem iblk_whole5 (t : Fin cfg0.N) (r l : Fin 128) : iblk m c 5 t (ix2 r l) = V m c main_v8 (ix2 r l) := by
  blk_ext [iblk, idx t]

/-- The blocks as the arguments' elements. -/
theorem iblk0 (s p : Fin 128) : iblk m c 0 (pt s) (ix2 p (0 : Fin 1)) = times m c (ix1 (flat s p)) := by
  rw [iblk_col0, V3]; pointwise []
  rfl

theorem iblk1 (s p : Fin 128) : iblk m c 1 (pt s) (ix2 p (0 : Fin 1)) = logits m c (ix2 (flat s p) (0 : Fin 1)) := by
  rw [iblk_col1, V4]; pointwise []
  rfl

theorem iblk2 (s p : Fin 128) : iblk m c 2 (pt s) (ix2 p (0 : Fin 1)) = (((events m c (ix2 (flat s p) (0 : Fin 1))).toInt : ℝ) : EReal) := by
  rw [iblk_col2, V5]; pointwise []
  rfl

theorem iblk3 (s r l : Fin 128) : iblk m c 3 (pt s) (ix2 r l) = times m c (ix1 (flat r l)) := by
  rw [iblk_whole3, V6]; pointwise [flat]

theorem iblk4 (s r l : Fin 128) : iblk m c 4 (pt s) (ix2 r l) = logits m c (ix2 (flat r l) (0 : Fin 1)) := by
  rw [iblk_whole4, V7]; pointwise [flat]

theorem iblk5 (s r l : Fin 128) : iblk m c 5 (pt s) (ix2 r l) = (((events m c (ix2 (flat r l) (0 : Fin 1))).toInt : ℝ) : EReal) := by
  rw [iblk_whole5, V8]; pointwise [flat]
  rfl

/-! ## The accumulation over the grid -/

/-- Block `s`'s part of the loss. -/
def part (s : Fin 128) : EReal :=
  partE (iblk m c 0 (pt s)) (iblk m c 1 (pt s)) (iblk m c 2 (pt s)) (iblk m c 3 (pt s)) (iblk m c 4 (pt s))

/-- After any point but the last the output holds the parts so far. -/
theorem outs_lt : ∀ (n : ℕ) (h : n < cfg0.N), n < 127 →
    outsAt0 m c n h (ix2 (0 : Fin 1) (0 : Fin 1)) = ∑ s : Fin 128, if s.val ≤ n then part m c s else 0
  | 0, h, hn => by
    rw [outsAt0_A m c ⟨0, h⟩ rfl (show ¬0 % 128 = 127 by decide), out_A, pay1_apply, pay9_apply, zero_add]
    rw [Finset.sum_eq_single (0 : Fin 128)]
    · rfl
    · intro b _ hb
      rw [if_neg (fun h0 => hb (Fin.ext (Nat.le_zero.mp h0)))]
    · intro h0; exact absurd (Finset.mem_univ _) h0
  | n + 1, h, hn => by
    have hB : ¬(⟨n + 1, h⟩ : Fin cfg0.N).val % 128 = 0 := by dsimp only; omega
    have hC : ¬(⟨n + 1, h⟩ : Fin cfg0.N).val % 128 = 127 := by dsimp only; omega
    rw [outsAt0_B m c ⟨n + 1, h⟩ hB hC, out_B, pay1_apply]
    have ih := outs_lt n (Nat.lt_of_succ_lt h) (by omega)
    show outsAt0 m c n _ _ + _ = _
    rw [ih]
    have hone : part m c ⟨n + 1, by omega⟩ = ∑ s : Fin 128, if s = ⟨n + 1, by omega⟩ then part m c s else 0 := by
      rw [Finset.sum_ite_eq' Finset.univ (⟨n + 1, by omega⟩ : Fin 128)]; simp
    show _ + part m c ⟨n + 1, by omega⟩ = _
    rw [hone, ← Finset.sum_add_distrib]
    refine Finset.sum_congr rfl fun s _ => ?_
    rcases lt_trichotomy s.val (n + 1) with g | g | g
    · rw [if_pos (show s.val ≤ n by omega), if_neg (fun e => g.ne (congrArg Fin.val e)), if_pos (show s.val ≤ n + 1 by omega), add_zero]
    · rw [if_neg (show ¬s.val ≤ n by omega), if_pos (Fin.ext g), if_pos (show s.val ≤ n + 1 by omega), zero_add]
    · rw [if_neg (show ¬s.val ≤ n by omega), if_neg (fun e => g.ne' (congrArg Fin.val e)), if_neg (show ¬s.val ≤ n + 1 by omega), add_zero]

/-- The summed event indicators. -/
def count : EReal := ∑ r : Fin 128, ∑ l : Fin 128, (((events m c (ix2 (flat r l) (0 : Fin 1))).toInt : ℝ) : EReal)

/-- After the last point the output holds the parts' sum over the event count, zero without events. -/
theorem outs_last (h : 127 < cfg0.N) : outsAt0 m c 127 h (ix2 (0 : Fin 1) (0 : Fin 1))
    = if count m c = 0 then 0 else Ideal.div (∑ s : Fin 128, part m c s) (count m c) := by
  rw [outsAt0_C m c ⟨127, h⟩ (show ¬127 % 128 = 0 by decide) rfl, out_C, pay2_apply, pay1_apply]
  have hsum : outsAt0 m c 126 (Nat.lt_of_succ_lt h) (ix2 (0 : Fin 1) (0 : Fin 1)) + part m c 127 = ∑ s : Fin 128, part m c s := by
    rw [outs_lt m c 126 _ (by omega)]
    have hone : part m c 127 = ∑ s : Fin 128, if s = 127 then part m c s else 0 := by
      rw [Finset.sum_ite_eq' Finset.univ (127 : Fin 128)]; simp
    rw [hone, ← Finset.sum_add_distrib]
    refine Finset.sum_congr rfl fun s _ => ?_
    by_cases g : s = 127
    · rw [if_neg (show ¬s.val ≤ 126 by rw [g]; decide), if_pos g, zero_add]
    · rw [if_pos (show s.val ≤ 126 from Nat.le_of_lt_succ (lt_of_le_of_ne (Nat.le_of_lt_succ s.isLt) fun e => g (Fin.ext e))), if_neg g, add_zero]
  have hcount : ∀ E : Vec Ideal S128x128 .f32, (∀ r l, E (ix2 r l) = (((events m c (ix2 (flat r l) (0 : Fin 1))).toInt : ℝ) : EReal)) →
      (∑ r : Fin 128, ∑ l : Fin 128, E (ix2 r l)) = count m c :=
    fun E hE => Finset.sum_congr rfl fun r _ => Finset.sum_congr rfl fun l _ => hE r l
  have hc := hcount (iblk m c 5 ⟨127, h⟩) fun r l => iblk5 m c 127 r l
  exact if_congr (by rw [hc]) rfl (congrArg₂ Ideal.div hsum hc)

/-- THE KERNEL'S RESULT: the [1, 1] array holds the parts' sum over the event count, zero without events. -/
theorem final : (dats m 0 c).arrAt 6 cfg0.N
    = fun _ => if count m c = 0 then 0 else Ideal.div (∑ s : Fin 128, part m c s) (count m c) := by
  have hlast := outs_last m c (pt 127).isLt
  generalize (if count m c = 0 then (0 : EReal) else Ideal.div (∑ s : Fin 128, part m c s) (count m c)) = R at hlast ⊢
  refine (dats m 0 c).arrAt_eq_of_after_last 6 (pt 127) (by decide +kernel) _ fun j => ?_
  blk_simp
  rw [after0_6]
  have hj : j = ix2 (0 : Fin 1) (0 : Fin 1) := by
    rw [eq_ix2 j]; congr 1 <;> exact Subsingleton.elim _ _
  rw [hj]
  exact hlast

end Cert.KernelIdeal.Value

end
-- ==== Proof.Sort.lean ====
/-
  What a stable sort of the positions by a key does: it lists the positions by key and, among equal keys, by position,
  so the positions listed up to and including the one of `i` are those whose key is smaller, and those of the same key
  that are not after `i`.
-/
module

public import Idealize.ShloMosaic.Lib.SortPrefix

@[expose] public section

namespace Cert.Sorting

open Idealize.ShloMosaic

/-- Sorting an increasing list of positions stably by a key is sorting it by the key and then the position: an element
    is inserted only into a list of later positions. -/
theorem stableSort_eq_byPosition {n : Nat} (B : Fin n → Fin n → Bool) (hirr : ∀ a b, B a b = true → B b a = false)
    (l : List (Fin n)) (hl : l.Pairwise (· < ·)) :
    stableSort B l = stableSort (fun a b => B a b || (!B b a && decide (a < b))) l := by
  induction l with
  | nil => rfl
  | cons a l ih =>
    rw [List.pairwise_cons] at hl
    unfold stableSort
    rw [← ih hl.2]
    refine insertBefore_congr _ _ a _ fun b hb => ?_
    have hab : a < b := hl.1 b ((perm_stableSort B l).mem_iff.mp hb)
    simp [not_lt.mpr hab.le]

/-- The sorted list of all positions has no later entry before an earlier one, by key and then position: what is listed
    at `q` is not before what is listed at an earlier `p`. -/
theorem sortedFrom_byKey {n : Nat} {κ : Type} [LinearOrder κ] (key : Fin n → κ) (p q : Fin n) (hpq : p < q) :
    key (sortedFrom (fun a b => decide (key a < key b)) p) < key (sortedFrom (fun a b => decide (key a < key b)) q) ∨
      (key (sortedFrom (fun a b => decide (key a < key b)) p) = key (sortedFrom (fun a b => decide (key a < key b)) q) ∧
        sortedFrom (fun a b => decide (key a < key b)) p < sortedFrom (fun a b => decide (key a < key b)) q) := by
  classical
  set B : Fin n → Fin n → Bool := fun a b => decide (key a < key b) with hB
  set T : Fin n → Fin n → Bool := fun k k' => decide (key k < key k') || (decide (key k = key k') && decide (k < k')) with hT
  have hTS : StrictTotalBefore T :=
    StrictTotalBefore.of_key_then_position (fun a b : κ => decide (a < b)) key (fun a => by simp)
      (fun a b c h h' => by simp only [decide_eq_true_eq] at *; exact h.trans h')
      (fun a b => by simp only [decide_eq_true_eq]; exact lt_trichotomy a b)
  have hpos : sortPositions n B = sortPositions n T := by
    have h := stableSort_eq_byPosition B (fun a b h => by simp only [hB, decide_eq_true_eq, decide_eq_false_iff_not] at *; exact h.asymm)
      (List.finRange n) (List.pairwise_lt_finRange n)
    unfold sortPositions
    rw [h]
    congr 1
    funext a b
    rw [hB, hT, Bool.eq_iff_iff]
    simp only [Bool.or_eq_true, Bool.and_eq_true, Bool.not_eq_true', decide_eq_true_eq, decide_eq_false_iff_not]
    constructor
    · rintro (h | ⟨h, h'⟩)
      · exact Or.inl h
      · rcases lt_trichotomy (key a) (key b) with g | g | g
        · exact Or.inl g
        · exact Or.inr ⟨g, h'⟩
        · exact absurd g h
    · rintro (h | ⟨h, h'⟩)
      · exact Or.inl h
      · exact Or.inr ⟨by rw [h]; exact lt_irrefl _, h'⟩
  have hfrom : sortedFrom B = sortedFrom T := by
    funext k
    unfold sortedFrom
    rw [List.get_of_eq hpos]
    rfl
  rw [hfrom]
  have hno := sortedFrom_noInversion T T (fun a b h => hTS.asymm a b h) (fun _ _ h => h) hTS.negTrans p q hpq
  have hne : sortedFrom T p ≠ sortedFrom T q := fun h => hpq.ne (sortedFrom_injective T h)
  have hyes := (hTS.total _ _ hne).resolve_right (by rw [hno]; exact Bool.false_ne_true)
  simpa only [hT, Bool.or_eq_true, Bool.and_eq_true, decide_eq_true_eq] using hyes

/-- The positions listed up to `p`: those of a smaller key than the one listed at `p`, and those of its key not after it. -/
theorem listed_upTo {n : Nat} {κ : Type} [LinearOrder κ] (key : Fin n → κ) (p q : Fin n) :
    q ≤ p ↔ (key (sortedFrom (fun a b => decide (key a < key b)) q) < key (sortedFrom (fun a b => decide (key a < key b)) p) ∨
      (key (sortedFrom (fun a b => decide (key a < key b)) q) = key (sortedFrom (fun a b => decide (key a < key b)) p) ∧
        sortedFrom (fun a b => decide (key a < key b)) q ≤ sortedFrom (fun a b => decide (key a < key b)) p)) := by
  constructor
  · intro h
    rcases h.lt_or_eq with h | rfl
    · rcases sortedFrom_byKey key q p h with h | ⟨h, h'⟩
      · exact Or.inl h
      · exact Or.inr ⟨h, h'.le⟩
    · exact Or.inr ⟨rfl, le_rfl⟩
  · intro h
    by_contra hq
    rcases sortedFrom_byKey key p q (not_le.mp hq) with g | ⟨g, g'⟩
    · rcases h with h | ⟨h, -⟩
      · exact absurd h g.asymm
      · exact absurd g (by rw [h]; exact lt_irrefl _)
    · rcases h with h | ⟨-, h'⟩
      · exact absurd h (by rw [g]; exact lt_irrefl _)
      · exact absurd g' (not_lt.mpr h')

/-- The sorted list as a permutation of the positions. -/
noncomputable def listing {n : Nat} {κ : Type} [LinearOrder κ] (key : Fin n → κ) : Equiv.Perm (Fin n) :=
  Equiv.ofBijective (sortedFrom fun a b => decide (key a < key b)) ⟨sortedFrom_injective _, sortedFrom_surjective _⟩

theorem listing_apply {n : Nat} {κ : Type} [LinearOrder κ] (key : Fin n → κ) (p : Fin n) :
    listing key p = sortedFrom (fun a b => decide (key a < key b)) p := rfl

/-- `listed_upTo`, of the permutation. -/
theorem listing_upTo {n : Nat} {κ : Type} [LinearOrder κ] (key : Fin n → κ) (p q : Fin n) :
    q ≤ p ↔ (key (listing key q) < key (listing key p) ∨
      (key (listing key q) = key (listing key p) ∧ listing key q ≤ listing key p)) := listed_upTo key p q

end Cert.Sorting

end
-- ==== Proof.Cox.lean ====
/-
  The loss over the reals. Row `i` has a time, a logit `x i` and an event weight `e i`; its risk set is every row whose
  time is not earlier. Two ways to compute the same sum of terms: over the rows, each against all rows (with the logits
  shifted by their maximum inside the logarithm), and over the rows listed from the latest time down, with running sums.
  They agree when only the last row of each set of equal times may carry an event.
-/
module

public import proofs.«01_k».proof.Proof.Sort
public import Mathlib.Analysis.SpecialFunctions.Log.Basic
public import Mathlib.Data.EReal.Operations

@[expose] public section

namespace Cert.Cox

open Cert.Sorting Finset

noncomputable section

variable {n : Nat} (t : Fin n → EReal) (x e : Fin n → ℝ)

/-- The summed weights of row `i`'s risk set: every row whose time is not earlier. -/
def risk (i : Fin n) : ℝ := ∑ j, if t i ≤ t j then Real.exp (x j) else 0

/-- Row `i`'s term of the negative log likelihood. -/
def term (i : Fin n) : ℝ := e i * (Real.log (risk t x i) - x i)

/-- The negative log likelihood. -/
def loss : ℝ := ∑ i, term t x e i

/-- A risk sum is positive: the row is in its own risk set. -/
theorem risk_pos (i : Fin n) : 0 < risk t x i := by
  unfold risk
  refine Finset.sum_pos' (fun j _ => ?_) ⟨i, mem_univ i, ?_⟩
  · split
    · exact (Real.exp_pos _).le
    · exact le_rfl
  · rw [if_pos le_rfl]; exact Real.exp_pos _

/-- The weights shifted by `μ`: the risk sum scaled by one factor. -/
theorem risk_shift (μ : ℝ) (i : Fin n) :
    (∑ j, if t i ≤ t j then Real.exp (x j - μ) else 0) = risk t x i * Real.exp (-μ) := by
  unfold risk
  rw [Finset.sum_mul]
  refine Finset.sum_congr rfl fun j _ => ?_
  rw [ite_mul, zero_mul, ← Real.exp_add, sub_eq_add_neg]

/-- The shifted risk sum is positive. -/
theorem risk_shift_pos (μ : ℝ) (i : Fin n) : 0 < ∑ j, if t i ≤ t j then Real.exp (x j - μ) else 0 := by
  rw [risk_shift]; exact mul_pos (risk_pos t x i) (Real.exp_pos _)

/-- The logarithm of the shifted risk sum, the shift added back, is the logarithm of the risk sum. -/
theorem log_risk_shift (μ : ℝ) (i : Fin n) :
    Real.log (∑ j, if t i ≤ t j then Real.exp (x j - μ) else 0) + μ = Real.log (risk t x i) := by
  rw [risk_shift, Real.log_mul (risk_pos t x i).ne' (Real.exp_pos _).ne', Real.log_exp]; ring

/-- The rows listed from the latest time down, equal times by row. -/
def order : Equiv.Perm (Fin n) := listing fun i => -t i

/-- The running sum of the listed weights. -/
def running (p : Fin n) : ℝ := ∑ q, if q ≤ p then Real.exp (x (order t q)) else 0

/-- A running sum is positive: the row listed last is in it. -/
theorem running_pos (p : Fin n) : 0 < running t x p := by
  unfold running
  refine Finset.sum_pos' (fun j _ => ?_) ⟨p, mem_univ p, ?_⟩
  · split
    · exact (Real.exp_pos _).le
    · exact le_rfl
  · rw [if_pos le_rfl]; exact Real.exp_pos _

/-- The running sum at `p` sums the rows of a later time than the row listed at `p`, and those of its time not after it. -/
theorem running_eq (p : Fin n) : running t x p
    = ∑ j, if t (order t p) < t j ∨ (t j = t (order t p) ∧ j ≤ order t p) then Real.exp (x j) else 0 := by
  unfold running
  rw [← Equiv.sum_comp (order t) fun j => if t (order t p) < t j ∨ (t j = t (order t p) ∧ j ≤ order t p) then Real.exp (x j) else 0]
  refine Finset.sum_congr rfl fun q _ => if_congr ?_ rfl rfl
  have h := listing_upTo (fun i => -t i) p q
  simp only [EReal.neg_lt_neg_iff, neg_inj] at h
  exact h

/-- When no event shares its time with a later row, the running sum at a row with an event is its risk sum. -/
theorem running_eq_risk (htie : ∀ i j : Fin n, i < j → t i = t j → e i = 0) (p : Fin n) (he : e (order t p) ≠ 0) :
    running t x p = risk t x (order t p) := by
  rw [running_eq]
  unfold risk
  refine Finset.sum_congr rfl fun j _ => if_congr ⟨?_, fun h => ?_⟩ rfl rfl
  · rintro (h | ⟨h, -⟩)
    · exact h.le
    · exact h.ge
  · rcases h.lt_or_eq with h | h
    · exact Or.inl h
    · exact Or.inr ⟨h.symm, not_lt.mp fun hlt => he (htie _ _ hlt h)⟩

/-- THE TWO WAYS AGREE. -/
theorem listed_loss (htie : ∀ i j : Fin n, i < j → t i = t j → e i = 0) :
    -(∑ p, (x (order t p) - Real.log (running t x p)) * e (order t p)) = loss t x e := by
  unfold loss
  rw [← Equiv.sum_comp (order t) (term t x e), ← Finset.sum_neg_distrib]
  refine Finset.sum_congr rfl fun p _ => ?_
  unfold term
  by_cases he : e (order t p) = 0
  · rw [he]; ring
  · rw [running_eq_risk t x e htie p he]; ring

end

end Cert.Cox

end
-- ==== Proof.EMath.lean ====
/-
  The operations of the extended reals on real numbers: what the ideal exponential, logarithm, maximum, sum and quotient
  give when their operands are real.
-/
module

public import proofs.«01_k».proof.Proof.Cox
public import Idealize.ShloMosaic.Lib.Pointwise

@[expose] public section

namespace Cert.EMath

open Idealize.ShloMosaic

/-- A value strictly between the infinities is a real number. -/
theorem exists_real {x : EReal} (h : max x (-x) < ⊤) : ∃ r : ℝ, (r : EReal) = x := by
  induction x with
  | bot => simp at h
  | coe r => exact ⟨r, rfl⟩
  | top => simp at h

/-- The exponential of a real number. -/
theorem exp_coe (r : ℝ) : Ideal.exp (r : EReal) = ((Real.exp r : ℝ) : EReal) := rfl

/-- The logarithm of a positive real number. -/
theorem log_coe {r : ℝ} (h : 0 < r) : Ideal.log (r : EReal) = ((Real.log r : ℝ) : EReal) := by
  show (if r ≤ 0 then (⊥ : EReal) else (Real.log r : EReal)) = _
  rw [if_neg (not_le.mpr h)]

/-- A finite sum of real numbers is real. -/
theorem sum_coe {ι : Type} (s : Finset ι) (f : ι → ℝ) : (∑ i ∈ s, (f i : EReal)) = ((∑ i ∈ s, f i : ℝ) : EReal) :=
  (map_sum (⟨⟨((↑) : ℝ → EReal), EReal.coe_zero⟩, EReal.coe_add⟩ : ℝ →+ EReal) f s).symm

/-- The choice between a real number and zero is real. -/
theorem ite_coe (p : Prop) [Decidable p] (r : ℝ) : (if p then (r : EReal) else 0) = ((if p then r else 0 : ℝ) : EReal) := by
  split <;> rfl

/-- The maximum of finitely many real numbers, at least one, is real. -/
theorem fold_max_real {ι : Type} [Fintype ι] [Nonempty ι] (f : ι → ℝ) :
    ∃ μ : ℝ, Finset.univ.fold max ⊥ (fun i => (f i : EReal)) = (μ : EReal) := by
  obtain ⟨i, -, hi⟩ := Finset.exists_max_image Finset.univ f Finset.univ_nonempty
  refine ⟨f i, le_antisymm ?_ ?_⟩
  · exact (Finset.fold_max_le _).mpr ⟨bot_le, fun j hj => EReal.coe_le_coe_iff.mpr (hi j hj)⟩
  · exact (Finset.le_fold_max _).mpr (Or.inr ⟨i, Finset.mem_univ i, le_rfl⟩)

/-- A row's number, as a 32-bit word, is itself. -/
theorem toInt_small (k : ℕ) (hk : k < 16384) : (BitVec.ofNat 32 k).toInt = k := by
  rw [BitVec.toInt_eq_toNat_of_lt] <;> rw [BitVec.toNat_ofNat, Nat.mod_eq_of_lt] <;> omega

end Cert.EMath

end
-- ==== Proof.KernelLoss.lean ====
/-
  The kernel's result over the reals. When every logit is real, the parts the grid's points add up to are the negative
  log likelihood of `Cox`, every row's risk set compared against all rows, and the event count is the rows' sum.
-/
module

public import proofs.«01_k».proof.Proof.KernelValue
public import proofs.«01_k».proof.Proof.EMath

@[expose] public section

set_option maxRecDepth 16384

noncomputable section

open Idealize.ShloMosaic Idealize.ShloMosaic.TcCoe Idealize.SL.Sem

namespace Cert.KernelIdeal.Value

open Cert.KernelIdeal Cert.KernelIdeal.Gen Cert.KernelIdeal.Body Cert.EMath

/-- A sum over rows and lanes of the [128, 128] arrangement is the sum over the whole. -/
theorem sum_flat {M : Type} [AddCommMonoid M] (f : Fin 16384 → M) :
    (∑ r : Fin 128, ∑ l : Fin 128, f (flat r l)) = ∑ i, f i := by
  rw [← Fintype.sum_prod_type' fun r l => f (flat r l)]
  refine Fintype.sum_equiv (finProdFinEquiv (m := 128) (n := 128)) _ _ fun p => congrArg f (Fin.ext ?_)
  show p.1.val * 128 + p.2.val = p.2.val + 128 * p.1.val
  omega

variable (m : (ℓ : Loc nD τ sig) → Buf (Elt Ideal) ℓ) (c : Dev nD)

/-- Row `i`'s time. -/
def time (i : Fin 16384) : EReal := times m c (ix1 i)
/-- Row `i`'s event indicator, as a real number. -/
def event (i : Fin 16384) : ℝ := ((events m c (ix2 i (0 : Fin 1))).toInt : ℝ)

/-- The event count is the sum of the rows' indicators. -/
theorem count_eq : count m c = ((∑ i, event m c i : ℝ) : EReal) := by
  unfold count
  rw [← sum_coe]
  exact sum_flat fun i => ((event m c i : ℝ) : EReal)

variable (x : Fin 16384 → ℝ) (hx : ∀ i, logits m c (ix2 i (0 : Fin 1)) = (x i : EReal))

include hx in
/-- The largest logit is real. -/
theorem max_real : ∃ μ : ℝ, ∀ s, k0_pay4 (iblk m c 4 (pt s)) = (μ : EReal) := by
  obtain ⟨μ, hμ⟩ := fold_max_real fun i : Fin 128 × Fin 128 => x (flat i.1 i.2)
  refine ⟨μ, fun s => ?_⟩
  rw [pay4_eq, ← hμ]
  exact Finset.fold_congr fun i _ => (iblk4 m c s i.1 i.2).trans (hx _)

include hx in
/-- A row's risk sum, the logits shifted by a real `μ`. -/
theorem risk_eq (μ : ℝ) (s p : Fin 128) (hμ : k0_pay4 (iblk m c 4 (pt s)) = (μ : EReal)) :
    riskE (iblk m c 0 (pt s)) (iblk m c 3 (pt s)) (iblk m c 4 (pt s)) p
      = ((∑ j, if time m c (flat s p) ≤ time m c j then Real.exp (x j - μ) else 0 : ℝ) : EReal) := by
  unfold riskE
  rw [hμ, iblk0, Finset.sum_comm, ← sum_coe, ← sum_flat]
  refine Finset.sum_congr rfl fun r _ => Finset.sum_congr rfl fun l _ => ?_
  rw [iblk3, iblk4, hx, ← EReal.coe_sub, exp_coe, ite_coe]
  rfl

include hx in
/-- A block's part is the sum of its rows' terms. -/
theorem part_real (s : Fin 128) :
    part m c s = ∑ p : Fin 128, ((Cox.term (time m c) x (event m c) (flat s p) : ℝ) : EReal) := by
  obtain ⟨μ, hμ⟩ := max_real m c x hx
  unfold part partE
  refine Finset.sum_congr rfl fun p _ => ?_
  rw [risk_eq m c x hx μ s p (hμ s), hμ s, iblk1, iblk2, hx, log_coe (Cox.risk_shift_pos (time m c) x μ (flat s p)),
    ← EReal.coe_add, Cox.log_risk_shift, ← EReal.coe_sub, ← EReal.coe_mul]
  rfl

include hx in
/-- THE PARTS' SUM IS THE LOSS. -/
theorem parts_eq : (∑ s : Fin 128, part m c s) = ((Cox.loss (time m c) x (event m c) : ℝ) : EReal) := by
  unfold Cox.loss
  rw [← sum_coe, ← sum_flat]
  exact Finset.sum_congr rfl fun s _ => part_real m c x hx s

end Cert.KernelIdeal.Value

end
-- ==== Proof.Window.lean ====
/-
  The running sum as the reference states it, a sum over a window as long as the array that ends at each position and
  reads zero before the array's start: at position `p` it is the sum of the elements up to and including `p`.
-/
module

public import Idealize.ShloMosaic.Lib.SortFacts
public import Idealize.ShloMosaic.Lib.Pointwise

@[expose] public section

namespace Cert.Window

open Idealize.ShloMosaic

/-- A left fold of additions over the positions is the start plus the sum. -/
theorem fold_add {n : Nat} {M : Type} [AddCommMonoid M] (g : Fin n → M) (a : M) :
    (List.finRange n).foldl (fun r k => r + g k) a = a + ∑ k, g k := by
  have h : ∀ (l : List (Fin n)) (a : M), l.foldl (fun r k => r + g k) a = a + (l.map g).sum := by
    intro l
    induction l with
    | nil => intro a; exact (add_zero a).symm
    | cons k l ih => intro a; rw [List.foldl_cons, ih, List.map_cons, List.sum_cons, add_assoc]
  rw [h, Fin.sum_univ_def]

/-- The indices of a rank-1 shape are its positions. -/
def positions (n : Nat) : (⟨1, ![n]⟩ : Shape).Idx ≃ Fin n where
  toFun j := j 0
  invFun k := Shape.Idx.ofFin k
  left_inv j := (Shape.Idx.eq_ofFin j).symm
  right_inv k := Shape.Idx.ofFin_zero k

/-- THE WINDOW SUM IS THE RUNNING SUM. -/
theorem window_sum {n L : Nat} (hL : L + 1 = n) (x : (⟨1, ![n]⟩ : Shape).Idx → EReal)
    (h : (⟨1, ![n]⟩ : Shape).ReduceWindows ![n] ![1] ![L] ![0] ⟨1, ![n]⟩) (p : Fin n) :
    Ideal.hostReduceWindowAdd ![n] ![1] ![L] ![0] h x 0 (Shape.Idx.ofFin p)
      = ∑ q, if q ≤ p then x (Shape.Idx.ofFin q) else 0 := by
  unfold Ideal.hostReduceWindowAdd Host.reduceWindow
  have hread : ∀ (k : Fin n) (at_ : Fin 1 → ℕ), at_ 0 = p.val + k.val →
      ∀ inst : Decidable (∀ a : Fin 1, (![L] : Fin 1 → ℕ) a ≤ at_ a ∧ at_ a - (![L] : Fin 1 → ℕ) a < (![n] : Fin 1 → ℕ) a),
      @dite EReal _ inst (fun hin => x (fun a => ⟨at_ a - (![L] : Fin 1 → ℕ) a, (hin a).2⟩)) (fun _ => 0)
      = ∑ q : Fin n, if q.val + L = p.val + k.val then x (Shape.Idx.ofFin q) else 0 := by
    intro k at_ hat _
    split_ifs with hc
    · have h0 : L ≤ at_ 0 ∧ at_ 0 - L < n := hc 0
      rw [Finset.sum_eq_single (⟨at_ 0 - L, h0.2⟩ : Fin n)]
      · rw [if_pos (show at_ 0 - L + L = _ by omega)]
        congr 1
        funext a
        obtain rfl : a = 0 := Subsingleton.elim _ _
        exact Fin.ext rfl
      · intro q _ hq
        rw [if_neg fun e => hq (Fin.ext (show q.val = at_ 0 - L by omega))]
      · intro h1; exact absurd (Finset.mem_univ _) h1
    · refine (Finset.sum_eq_zero fun q _ => if_neg fun e => hc fun a => ?_).symm
      obtain rfl : a = 0 := Subsingleton.elim _ _
      have := q.isLt
      show L ≤ at_ 0 ∧ at_ 0 - L < n
      omega
  refine (fold_add _ _).trans ?_
  rw [zero_add]
  refine (Finset.sum_congr rfl fun k _ => hread (((⟨1, ![n]⟩ : Shape).rowMajor.symm k) 0)
    (fun a => (Shape.Idx.ofFin p a).val * (![1] : Fin 1 → ℕ) a + ((⟨1, ![n]⟩ : Shape).rowMajor.symm k a).val) ?_ _).trans ?_
  · show (Shape.Idx.ofFin p 0).val * 1 + _ = _
    rw [Shape.Idx.ofFin_zero, Nat.mul_one]
  refine (Equiv.sum_comp ((⟨1, ![n]⟩ : Shape).rowMajor.symm.trans (positions n)) fun k : Fin n =>
    ∑ q : Fin n, if q.val + L = p.val + k.val then x (Shape.Idx.ofFin q) else 0).trans ?_
  rw [Finset.sum_comm]
  refine Finset.sum_congr rfl fun q _ => ?_
  split_ifs with hq
  · have hq' : q.val ≤ p.val := hq
    have := p.isLt
    rw [Finset.sum_eq_single (⟨q.val + L - p.val, by omega⟩ : Fin n)]
    · rw [if_pos (show _ = p.val + (q.val + L - p.val) by omega)]
    · intro k _ hk
      rw [if_neg fun e => hk (Fin.ext (show k.val = q.val + L - p.val by omega))]
    · intro h1; exact absurd (Finset.mem_univ _) h1
  · have hq' : ¬q.val ≤ p.val := hq
    refine Finset.sum_eq_zero fun k _ => if_neg fun e => ?_
    have := k.isLt
    omega

end Cert.Window

end
-- ==== Proof.RefValue.lean ====
/-
  The reference's result. The rows are sorted by the negated times, the logits and the event indicators are read in that
  order, the exponentials are summed from the front, and the terms of the rows with an event are added up.
-/
module

public import proofs.«01_k».proof.Proof.Gen.ReferenceIdeal.Run
public import proofs.«01_k».proof.Proof.EMath
public import proofs.«01_k».proof.Proof.Window
public import Idealize.ShloMosaic.Lib.StableHlo.Predicate

@[expose] public section

set_option maxRecDepth 16384

noncomputable section

open Idealize.ShloMosaic Idealize.ShloMosaic.TcCoe

namespace Cert.ReferenceIdeal.Sorted

open Cert.ReferenceIdeal Cert.ReferenceIdeal.Gen Cert.EMath

variable (a0 : FVec Ideal S16384x1 .f32) (a1 : FVec Ideal S16384 .f32) (a2 : IVec S16384x1 32)

/-- The two spellings of a position of a vector. -/
theorem ofFin_eq (p : Fin 16384) : (Shape.Idx.ofFin p : S16384.Idx) = ix1 p := by
  rw [ValueIdx.eq_ix1 (Shape.Idx.ofFin p : S16384.Idx)]; congr 1

/-- The sort's comparison at the ideal values is the order of the first components. -/
theorem before_eq (a b : Ideal .f32 × BitVec 32) :
    (comparator_f32_i32_d0 (F := Ideal) a b == 1#1) = decide ((a.1 : EReal) < b.1) := by
  pointwise [comparator_f32_i32_d0]
  have hsel : ∀ x y : EReal, (if x ≠ x then y else if x = 0 then 0 else x) = x := fun x y => by
    rw [if_neg (not_not.mpr rfl)]; split_ifs with h
    · exact h.symm
    · rfl
  erw [hsel, hsel]
  show (BitVec.ofBool (decide ((a.1 : EReal) < b.1)) == 1#1) = _
  cases decide ((a.1 : EReal) < b.1) <;> rfl

/-- The rows' numbers in sorted order. -/
def perm : IVec S16384 32 := (Host.sort2 S16384 0 comparator_f32_i32_d0 (Host.negf a1) (iotaInDim S16384 32 0)).2

/-- Row `i`'s time. -/
def time (i : Fin 16384) : EReal := a1 (ix1 i)

/-- The rows are numbered from zero. -/
theorem iota_apply (k : Fin 16384) : iotaInDim S16384 32 0 (Shape.Idx.ofFin k : S16384.Idx) = BitVec.ofNat 32 k.val :=
  congrArg (fun k : Fin 16384 => BitVec.ofNat 32 k.val) (Shape.Idx.ofFin_zero k)

/-- The sorted row numbers are the listing of the rows from the latest time down, equal times by row. -/
theorem perm_apply (p : Fin 16384) : perm a1 (ix1 p) = BitVec.ofNat 32 (Cox.order (time a1) p).val := by
  have hb : (fun k k' : Fin 16384 => comparator_f32_i32_d0 (F := Ideal)
      (Host.negf a1 ((ix1 p : S16384.Idx).along 0 k), iotaInDim S16384 32 0 ((ix1 p : S16384.Idx).along 0 k))
      (Host.negf a1 ((ix1 p : S16384.Idx).along 0 k'), iotaInDim S16384 32 0 ((ix1 p : S16384.Idx).along 0 k')) == 1#1)
      = fun k k' => decide (-time a1 k < -time a1 k') := by
    funext k k'
    rw [before_eq, Shape.Idx.along_rank1, Shape.Idx.along_rank1, ofFin_eq, ofFin_eq]
    rfl
  show iotaInDim S16384 32 0 ((ix1 p : S16384.Idx).along 0 (sortedFrom (fun k k' : Fin 16384 => comparator_f32_i32_d0 (F := Ideal)
      (Host.negf a1 ((ix1 p : S16384.Idx).along 0 k), iotaInDim S16384 32 0 ((ix1 p : S16384.Idx).along 0 k))
      (Host.negf a1 ((ix1 p : S16384.Idx).along 0 k'), iotaInDim S16384 32 0 ((ix1 p : S16384.Idx).along 0 k')) == 1#1) p)) = _
  refine (congrArg (iotaInDim S16384 32 0) (Shape.Idx.along_rank1 (ix1 p : S16384.Idx) _)).trans ?_
  rw [hb]
  exact iota_apply (sortedFrom (fun k k' : Fin 16384 => decide (-time a1 k < -time a1 k')) p)

/-- The positions the reference reads at: a negative row number counts from the end. -/
def starts : IVec S16384x1 32 := broadcastInDim S16384x1 ![0] bcast_S16384_S16384x1_0
  (select (cmpi .slt (perm a1) (broadcastInDim S16384 ![] bcast_S_S16384 (constantI S_ 32 0#32)))
    (addi (perm a1) (broadcastInDim S16384 ![] bcast_S_S16384 (constantI S_ 32 16384#32))) (perm a1))

/-- No row number is negative, so the position read at is the row's number. -/
theorem starts_apply (p : Fin 16384) : (starts a1 (ix2 p (0 : Fin 1))).toInt = (Cox.order (time a1) p).val := by
  have hp := perm_apply a1 p
  have h : starts a1 (ix2 p (0 : Fin 1)) = Scalar.select (IntOp.cmpi .slt (perm a1 (ix1 p)) 0#32)
      (IntOp.addi (perm a1 (ix1 p)) 16384#32) (perm a1 (ix1 p)) := by
    pointwise [starts]
  have hs := toInt_small _ (Cox.order (time a1) p).isLt
  have h0 : IntOp.cmpi .slt (perm a1 (ix1 p)) 0#32 = 0#1 := by
    show BitVec.ofBool (BitVec.slt _ _) = 0#1
    rw [hp, BitVec.slt_eq_decide, hs, decide_eq_false (by rw [BitVec.toInt_zero]; omega)]
    rfl
  rw [h, h0, hp]
  exact hs

/-- An array read in sorted order. -/
def sorted (v : FVec Ideal S16384 .f32) : FVec Ideal S16384 .f32 :=
  Host.gather gather_S16384_S16384x1_S16384_n_0_n_n_0_1_1 v (starts a1)

/-- An array read in sorted order holds the listed rows' elements. -/
theorem sorted_apply (v : FVec Ideal S16384 .f32) (p : Fin 16384) :
    sorted a1 v (ix1 p) = v (ix1 (Cox.order (time a1) p)) := by
  have h := StableHlo.Predicate.gather_take gather_S16384_S16384x1_S16384_n_0_n_n_0_1_1 rfl rfl rfl rfl v (starts a1) p (by decide)
  rw [ofFin_eq, ofFin_eq] at h
  refine h.trans (congrArg (fun k => v (ix1 k)) (Fin.ext ?_))
  show min (starts a1 (StableHlo.Predicate.ixP p)).toInt.toNat (16384 - 1) = _
  have hi : (StableHlo.Predicate.ixP p : S16384x1.Idx) = ix2 p (0 : Fin 1) := by
    rw [ValueIdx.eq_ix2 (StableHlo.Predicate.ixP p : S16384x1.Idx)]; congr 1
  rw [hi, starts_apply]
  have := (Cox.order (time a1) p).isLt
  omega

/-! ## The result -/

/-- The last operations, elementwise: without events a zero multiple of the logits' sum, else the negated sum of the
    terms divided by the event count. -/
theorem combine_apply (NU : FVec Ideal S_ .f32) (LR C E : FVec Ideal S16384 .f32) :
    shapeCast S1x1 (select (cmpf .oeq NU (constant S_ .f32 0x00000000#32))
      (mulf (Host.reduceAdd LR (constant S_ .f32 0x00000000#32) reducesTo_S16384_S_d0 h_S_) (constant S_ .f32 0x00000000#32))
      (Host.divf (Host.negf (Host.reduceAdd (mulf (subf LR (Host.log C)) E) (constant S_ .f32 0x00000000#32) reducesTo_S16384_S_d0 h_S_)) NU))
      shapeCasts_S_S1x1 (ix2 (0 : Fin 1) (0 : Fin 1))
    = if NU ix0 = 0 then (∑ p : Fin 16384, LR (ix1 p)) * 0
      else Ideal.div (-(∑ p : Fin 16384, (LR (ix1 p) - Ideal.log (C (ix1 p))) * E (ix1 p))) (NU ix0) := by
  pointwise []

/-- The event count. -/
theorem count_apply : (Host.reduceAdd (sitofp .f32 a2) (constant S_ .f32 0x00000000#32) reducesTo_S16384x1_S_d0_1 h_S_ : FVec Ideal S_ .f32) ix0
    = ((∑ i : Fin 16384, ((a2 (ix2 i (0 : Fin 1))).toInt : ℝ) : ℝ) : EReal) := by
  pointwise []
  rw [← sum_coe]
  refine Finset.sum_congr rfl fun i _ => ?_
  rw [Fin.sum_univ_one]
  rfl

/-- The running sum of the exponentials. -/
theorem running_apply (v : FVec Ideal S16384 .f32) (p : Fin 16384) :
    (Host.reduceWindowAdd ![16384] ![1] ![16383] ![0] (Host.exp v)
      (broadcastInDim S_ ![] bcast_S_S_ (constant S_ .f32 0x00000000#32)) reduceWindows_S16384_S16384_w16384s1p16383_0 h_S_ : FVec Ideal S16384 .f32) (ix1 p)
    = ∑ q : Fin 16384, if q ≤ p then Ideal.exp (v (ix1 q)) else 0 := by
  have h0 : (broadcastInDim S_ ![] bcast_S_S_ (constant S_ .f32 0x00000000#32) : FVec Ideal S_ .f32) (Shape.Idx.first h_S_) = 0 := by
    pointwise []
  unfold Host.reduceWindowAdd
  rw [Ideal.hostReduceWindowAdd_def, h0, ← ofFin_eq]
  refine (Window.window_sum (L := 16383) (by norm_num) (Host.exp v) reduceWindows_S16384_S16384_w16384s1p16383_0 p).trans ?_
  refine Finset.sum_congr rfl fun q _ => ?_
  rw [ofFin_eq]
  rfl

/-- The reference's result, as it computes it. -/
def result : FVec Ideal S1x1 .f32 := shapeCast S1x1
  (select (cmpf .oeq (Host.reduceAdd (sitofp .f32 a2) (constant S_ .f32 0x00000000#32) reducesTo_S16384x1_S_d0_1 h_S_ : FVec Ideal S_ .f32) (constant S_ .f32 0x00000000#32))
    (mulf (Host.reduceAdd (sorted a1 (shapeCast S16384 a0 shapeCasts_S16384x1_S16384)) (constant S_ .f32 0x00000000#32) reducesTo_S16384_S_d0 h_S_) (constant S_ .f32 0x00000000#32))
    (Host.divf (Host.negf (Host.reduceAdd (mulf (subf (sorted a1 (shapeCast S16384 a0 shapeCasts_S16384x1_S16384))
        (Host.log (Host.reduceWindowAdd ![16384] ![1] ![16383] ![0] (Host.exp (sorted a1 (shapeCast S16384 a0 shapeCasts_S16384x1_S16384)))
          (broadcastInDim S_ ![] bcast_S_S_ (constant S_ .f32 0x00000000#32)) reduceWindows_S16384_S16384_w16384s1p16383_0 h_S_)))
        (sorted a1 (shapeCast S16384 (sitofp .f32 a2) shapeCasts_S16384x1_S16384))) (constant S_ .f32 0x00000000#32) reducesTo_S16384_S_d0 h_S_))
      (Host.reduceAdd (sitofp .f32 a2) (constant S_ .f32 0x00000000#32) reducesTo_S16384x1_S_d0_1 h_S_))) shapeCasts_S_S1x1

variable (x : Fin 16384 → ℝ) (hx : ∀ i, a0 (ix2 i (0 : Fin 1)) = (x i : EReal))

/-- Row `i`'s event indicator, as a real number. -/
def event (i : Fin 16384) : ℝ := ((a2 (ix2 i (0 : Fin 1))).toInt : ℝ)

include hx in
/-- THE REFERENCE'S RESULT: the loss divided by the event count, zero without events. -/
theorem result_eq (htie : ∀ i j : Fin 16384, i < j → time a1 i = time a1 j → event a2 i = 0) :
    result a0 a1 a2 = fun _ => if ((∑ i, event a2 i : ℝ) : EReal) = 0 then 0
      else Ideal.div ((Cox.loss (time a1) x (event a2) : ℝ) : EReal) ((∑ i, event a2 i : ℝ) : EReal) := by
  funext j
  have hj : j = ix2 (0 : Fin 1) (0 : Fin 1) := by
    rw [ValueIdx.eq_ix2 j]; congr 1 <;> exact Subsingleton.elim (α := Fin 1) _ _
  rw [hj]
  have hL : ∀ p, sorted a1 (shapeCast S16384 a0 shapeCasts_S16384x1_S16384) (ix1 p) = (x (Cox.order (time a1) p) : EReal) := fun p => by
    rw [sorted_apply, ← hx]; pointwise []
  have hE : ∀ p, sorted a1 (shapeCast S16384 (sitofp .f32 a2) shapeCasts_S16384x1_S16384) (ix1 p)
      = (event a2 (Cox.order (time a1) p) : EReal) := fun p => by
    rw [sorted_apply]; pointwise []; rfl
  refine (combine_apply _ _ _ _).trans ?_
  rw [count_apply]
  refine if_congr Iff.rfl ?_ (congrArg₂ Ideal.div ?_ rfl)
  · exact mul_zero _
  · rw [← Cox.listed_loss (time a1) x (event a2) htie, EReal.coe_neg, ← sum_coe]
    refine congrArg Neg.neg (Finset.sum_congr rfl fun p _ => ?_)
    have hr : (∑ q : Fin 16384, if q ≤ p then Ideal.exp (sorted a1 (shapeCast S16384 a0 shapeCasts_S16384x1_S16384) (ix1 q)) else 0)
        = ((Cox.running (time a1) x p : ℝ) : EReal) := by
      unfold Cox.running
      rw [← sum_coe]
      refine Finset.sum_congr rfl fun q _ => ?_
      rw [hL, exp_coe, ite_coe]
    rw [running_apply, hr, hL, hE, log_coe (Cox.running_pos _ x p), ← EReal.coe_sub, ← EReal.coe_mul]

end Cert.ReferenceIdeal.Sorted

end
-- ==== Proof.Pre.lean ====
/-
  The precondition read off: every logit is a real number, and a row with an event shares its time with no later row.
-/
module

public import proofs.«01_k».proof.Defs
public import proofs.«01_k».proof.Proof.EMath
public import Idealize.ShloMosaic.Lib.Pointwise

@[expose] public section

set_option maxRecDepth 16384

noncomputable section

open Idealize.ShloMosaic Idealize.ShloMosaic.TcCoe

namespace Cert.Pre

open Cert.Pre_ties_break_no_event Cert.EMath

/-- The shape relations that the precondition's operations take. -/
theorem facts : Facts where
  shapeCasts_S16384_S16384x1 := by decide
  shapeCasts_S16384_S1x16384 := by decide
  bcast_S16384x1_S16384x16384_0_1 := by decide
  bcast_S1x16384_S16384x16384_0_1 := by decide
  bcast_S_S16384x1 := by decide

variable [Facts] (a0 : FVec Ideal S16384x1 .f32) (a1 : FVec Ideal S16384 .f32) (a2 : IVec S16384x1 32)

/-- Every logit is a real number. -/
theorem logits_real (h : (fn a0 a1 a2).1 = fun _ => 1#1) (i : Fin 16384) : ∃ r : ℝ, (r : EReal) = a0 (ix2 i (0 : Fin 1)) := by
  have h0 := congrFun h (ix2 i (0 : Fin 1))
  revert h0
  pointwise [fn]
  intro h0
  have htop : Ideal.ofBits .f32 2139095040#32 = ⊤ := by
    unfold Ideal.ofBits; rfl
  rw [htop] at h0
  refine exists_real (of_decide_eq_true ?_)
  revert h0
  show BitVec.ofBool (decide (max (a0 (ix2 i (0 : Fin 1)) : EReal) (-a0 (ix2 i (0 : Fin 1)) : EReal) < ⊤)) = 1#1 → _
  cases decide (max (a0 (ix2 i (0 : Fin 1)) : EReal) (-a0 (ix2 i (0 : Fin 1)) : EReal) < ⊤)
  · intro h1; exact absurd h1 (by decide)
  · intro _; rfl

/-- No event shares its time with a later row. -/
theorem tie_no_event (h : (fn a0 a1 a2).2 = fun _ => 1#1) (i j : Fin 16384) (hij : i < j)
    (ht : a1 (ix1 i) = a1 (ix1 j)) : a2 (ix2 i (0 : Fin 1)) = 0#32 := by
  have h0 := congrFun h (ix2 i j)
  revert h0
  pointwise [fn]
  have hlt : IntOp.cmpi .slt (BitVec.ofNat 32 i.val) (BitVec.ofNat 32 j.val) = 1#1 := by
    show BitVec.ofBool (BitVec.slt _ _) = 1#1
    rw [BitVec.slt_eq_decide, EMath.toInt_small _ i.isLt, EMath.toInt_small _ j.isLt,
      decide_eq_true (show (i.val : ℤ) < j.val from Int.ofNat_lt.mpr hij)]
    rfl
  rw [hlt, ht, decide_eq_true rfl]
  by_cases h : a2 (ix2 i (0 : Fin 1)) = 0#32
  · exact fun _ => h
  · have hne : IntOp.cmpi .ne (a2 (ix2 i (0 : Fin 1))) 0#32 = 1#1 := by
      show BitVec.ofBool (a2 (ix2 i (0 : Fin 1)) != 0#32) = 1#1
      rw [bne_iff_ne.mpr h]; rfl
    rw [hne]
    intro h1; exact absurd h1 (by decide)

end Cert.Pre

end
-- ==== Proof.Equation.lean ====
/-
  The equation: under the precondition the kernel's array and the reference's result, of the same arguments, are both the
  negative log likelihood divided by the event count, and zero without events.
-/
module

public import proofs.«01_k».proof.Proof.KernelLoss
public import proofs.«01_k».proof.Proof.RefValue
public import proofs.«01_k».proof.Proof.Pre

@[expose] public section

set_option maxRecDepth 16384

noncomputable section

open Idealize.ShloMosaic Idealize.ShloMosaic.TcCoe

namespace Cert.Equation

open Cert.KernelIdeal Cert.KernelIdeal.Gen Cert.KernelIdeal.Value

variable [Cert.Pre_ties_break_no_event.Facts] (m : (ℓ : Loc nD τ sig) → Buf (Elt Ideal) ℓ) (c : Dev nD)

/-- THE KERNEL'S ARRAY IS THE REFERENCE'S RESULT. -/
theorem kernel_eq_reference
    (h1 : (Cert.Pre_ties_break_no_event.fn (F := Ideal) (logits m c) (times m c) (events m c)).1 = fun _ => 1#1)
    (h2 : (Cert.Pre_ties_break_no_event.fn (F := Ideal) (logits m c) (times m c) (events m c)).2 = fun _ => 1#1) :
    (dats m 0 c).arrAt 6 cfg0.N = Cert.ReferenceIdeal.Sorted.result (logits m c) (times m c) (events m c) := by
  choose x hx using Pre.logits_real (logits m c) (times m c) (events m c) h1
  have htie : ∀ i j : Fin 16384, i < j → time m c i = time m c j → event m c i = 0 := fun i j hij ht => by
    unfold event
    rw [Pre.tie_no_event (logits m c) (times m c) (events m c) h2 i j hij ht]
    simp
  rw [final, count_eq, parts_eq m c x fun i => (hx i).symm]
  exact (Cert.ReferenceIdeal.Sorted.result_eq (logits m c) (times m c) (events m c) x (fun i => (hx i).symm) htie).symm

end Cert.Equation

end
-- ==== Proof.lean ====
/-
  The certificate's claims, assembled: the programs run, leave their arguments and end with every counter at zero; the
  ideal program is the program's own text; and at the ideal values the kernel's result is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments and has no counter to leave at another value. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- THE VALUE: the kernel's [1, 1] array is the reference's. -/
theorem algebraic : Cert.algebraic_KernelIdeal_ReferenceIdeal_pre_ties_break_no_event
    (hKernelIdeal := Cert.KernelIdeal.Gen.facts) (hReferenceIdeal := Cert.ReferenceIdeal.Gen.facts)
    (hPre_ties_break_no_event := Cert.Pre.facts) := by
  intro m ρ m' ρ' hpre hagree
  refine ⟨fun c => (Cert.KernelIdeal.Gen.dats m 0 c).arrAt 6 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.Value.run (F := Ideal) m' ρ')
  rw [(hagree c).1, (hagree c).2.1, (hagree c).2.2]
  haveI := Cert.Pre.facts
  exact (Cert.Equation.kernel_eq_reference m c (hpre c).1 (hpre c).2).symm

/-- Everything the certificate claims. -/
theorem claim : Cert.Claim :=
  ⟨Cert.Kernel.Gen.facts, Cert.KernelIdeal.Gen.facts, Cert.ReferenceIdeal.Gen.facts, Cert.Pre.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    trivial, algebraic⟩

end Cert.Proof

end
